-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "c0" .f32 0xC9638E3A#32 ((-125099997105721 / 134217728 : ℝ) : EReal)
  ∧ IdealRules.named_const.Statement Cert.KernelIdeal.κ "c1" .f32 0xCA2AAAAB#32 ((-375299991317163 / 134217728 : ℝ) : EReal)
  ∧ IdealRules.named_const.Statement Cert.KernelIdeal.κ "c2" .f32 0xCA8E38E3#32 ((-156374979604935 / 33554432 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x4096x32 : Shape := ⟨3, ![32, 4096, 32]⟩
abbrev S32x2x4096 : Shape := ⟨3, ![32, 2, 4096]⟩
abbrev S32x3x4096 : Shape := ⟨3, ![32, 3, 4096]⟩
abbrev S_ : Shape := ⟨0, ![]⟩

class Facts : Prop where
  bcast_S_S32x4096x32 : S_.BroadcastsInDim S32x4096x32 (![] : Fin 0 → Fin S32x4096x32.rank)
  reducesTo_S32x4096x32_S_d0_1_2 : S32x4096x32.ReducesTo [0, 1, 2] S_
  h_S_ : 0 < S_.numel
  bcast_S_S32x3x4096 : S_.BroadcastsInDim S32x3x4096 (![] : Fin 0 → Fin S32x3x4096.rank)
  reducesTo_S32x3x4096_S_d0_1_2 : S32x3x4096.ReducesTo [0, 1, 2] S_

variable [Facts]

def fn {F : FTy → Type} [FloatOps F] (main_arg0 : FVec F S32x4096x32 .f32) (main_arg1 : FVec F S32x2x4096 .f32) (main_arg2 : FVec F S32x3x4096 .f32) : IVec S_ 1 :=
  let main_v0 : FVec F S32x4096x32 .f32 := Host.absf main_arg0
  let main_cst : FVec F S_ .f32 := constant S_ .f32 0x7F800000#32
  let main_v1 : FVec F S32x4096x32 .f32 := broadcastInDim S32x4096x32 ![] bcast_S_S32x4096x32 main_cst
  let main_v2 : IVec S32x4096x32 1 := cmpf .olt main_v0 main_v1
  let main_c : IVec S_ 1 := constantI S_ 1 1#1
  let main_v3 : IVec S_ 1 := (fun x v => Host.reduce IntOp.andi x v reducesTo_S32x4096x32_S_d0_1_2 h_S_) main_v2 main_c
  let main_v4 : FVec F S32x3x4096 .f32 := Host.absf main_arg2
  let main_cst_0 : FVec F S_ .f32 := constant S_ .f32 0x7F800000#32
  let main_v5 : FVec F S32x3x4096 .f32 := broadcastInDim S32x3x4096 ![] bcast_S_S32x3x4096 main_cst_0
  let main_v6 : IVec S32x3x4096 1 := cmpf .olt main_v4 main_v5
  let main_c_1 : IVec S_ 1 := constantI S_ 1 1#1
  let main_v7 : IVec S_ 1 := (fun x v => Host.reduce IntOp.andi x v reducesTo_S32x3x4096_S_d0_1_2 h_S_) main_v6 main_c_1
  let main_v8 : IVec S_ 1 := andi main_v3 main_v7
  main_v8
-- ==== Kernel.lean ====
abbrev S32x4096x32 : Shape := ⟨3, ![32, 4096, 32]⟩
abbrev S32x2x4096 : Shape := ⟨3, ![32, 2, 4096]⟩
abbrev S32x3x4096 : Shape := ⟨3, ![32, 3, 4096]⟩
abbrev S32x2x256 : Shape := ⟨3, ![32, 2, 256]⟩
abbrev S32x3x256 : Shape := ⟨3, ![32, 3, 256]⟩
abbrev S32x256x32 : Shape := ⟨3, ![32, 256, 32]⟩
abbrev S32x1x256 : Shape := ⟨3, ![32, 1, 256]⟩
abbrev S32x256 : Shape := ⟨2, ![32, 256]⟩
abbrev S32x8192 : Shape := ⟨2, ![32, 8192]⟩
abbrev S32x32 : Shape := ⟨2, ![32, 32]⟩
abbrev S8192x32 : Shape := ⟨2, ![8192, 32]⟩

abbrev nBuf : Space → Nat
  | .hbm => 6
  | .vmem => 8
  | .smem => 0
  | _ => 0

abbrev bufTy : (tb : Table) → Fin (tcTables nBuf tb) → BufTy
  | .hbm, ⟨0, _⟩ => ⟨S32x4096x32, .f32⟩
  | .hbm, ⟨1, _⟩ => ⟨S32x2x4096, .f32⟩
  | .hbm, ⟨2, _⟩ => ⟨S32x3x4096, .f32⟩
  | .hbm, ⟨3, _⟩ => ⟨S32x4096x32, .fp8e4m3⟩
  | .hbm, ⟨4, _⟩ => ⟨S32x4096x32, .bf16⟩
  | .hbm, ⟨5, _⟩ => ⟨S32x4096x32, .f32⟩
  | .local _ .vmem, ⟨0, _⟩ => ⟨S32x2x256, .f32⟩
  | .local _ .vmem, ⟨1, _⟩ => ⟨S32x2x256, .f32⟩
  | .local _ .vmem, ⟨2, _⟩ => ⟨S32x3x256, .f32⟩
  | .local _ .vmem, ⟨3, _⟩ => ⟨S32x3x256, .f32⟩
  | .local _ .vmem, ⟨4, _⟩ => ⟨S32x256x32, .fp8e4m3⟩
  | .local _ .vmem, ⟨5, _⟩ => ⟨S32x256x32, .fp8e4m3⟩
  | .local _ .vmem, ⟨6, _⟩ => ⟨S32x256x32, .bf16⟩
  | .local _ .vmem, ⟨7, _⟩ => ⟨S32x256x32, .bf16⟩
  | _, _ => ⟨S32x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x32 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "c0" => some ((-125099997105721 / 134217728 : ℝ) : EReal)
  | "c1" => some ((-375299991317163 / 134217728 : ℝ) : EReal)
  | "c2" => some ((-156374979604935 / 33554432 : ℝ) : EReal)
  | _ => none
-- ==== ReferenceIdeal.lean ====
abbrev S32x4096x32 : Shape := ⟨3, ![32, 4096, 32]⟩
abbrev S32x2x4096 : Shape := ⟨3, ![32, 2, 4096]⟩
abbrev S32x3x4096 : Shape := ⟨3, ![32, 3, 4096]⟩
abbrev S4 : Shape := ⟨1, ![4]⟩
abbrev S3 : Shape := ⟨1, ![3]⟩
abbrev S_ : Shape := ⟨0, ![]⟩
abbrev S32x4096x32x1 : Shape := ⟨4, ![32, 4096, 32, 1]⟩
abbrev S32x4096x32x2 : Shape := ⟨4, ![32, 4096, 32, 2]⟩
abbrev S4096x32x32 : Shape := ⟨3, ![4096, 32, 32]⟩
abbrev S1x1x1x3 : Shape := ⟨4, ![1, 1, 1, 3]⟩
abbrev S32x4096x32x3 : Shape := ⟨4, ![32, 4096, 32, 3]⟩

abbrev nBuf : Space → Nat
  | .hbm => 56
  | .vmem => 0
  | .smem => 0
  | _ => 0

abbrev bufTy : (tb : Table) → Fin (tcTables nBuf tb) → BufTy
  | .hbm, ⟨0, _⟩ => ⟨S32x4096x32, .f32⟩
  | .hbm, ⟨1, _⟩ => ⟨S32x2x4096, .f32⟩
  | .hbm, ⟨2, _⟩ => ⟨S32x3x4096, .f32⟩
  | .hbm, ⟨3, _⟩ => ⟨S4, .f32⟩
  | .hbm, ⟨4, _⟩ => ⟨S3, .f32⟩
  | .hbm, ⟨5, _⟩ => ⟨S3, .f32⟩
  | .hbm, ⟨6, _⟩ => ⟨S_, .f32⟩
  | .hbm, ⟨7, _⟩ => ⟨S32x4096x32, .f32⟩
  | .hbm, ⟨8, _⟩ => ⟨S_, .f32⟩
  | .hbm, ⟨9, _⟩ => ⟨S32x4096x32, .f32⟩
  | .hbm, ⟨10, _⟩ => ⟨S32x4096x32, .f32⟩
  | .hbm, ⟨11, _⟩ => ⟨S_, .f32⟩
  | .hbm, ⟨12, _⟩ => ⟨S32x4096x32, .f32⟩
  | .hbm, ⟨13, _⟩ => ⟨S32x4096x32, .f32⟩
  | .hbm, ⟨14, _⟩ => ⟨S32x4096x32x1, .f32⟩
  | .hbm, ⟨15, _⟩ => ⟨S32x4096x32x1, .f32⟩
  | .hbm, ⟨16, _⟩ => ⟨S32x4096x32x2, .f32⟩
  | .hbm, ⟨17, _⟩ => ⟨S4096x32x32, .f32⟩
  | .hbm, ⟨18, _⟩ => ⟨S32x4096x32, .f32⟩
  | .hbm, ⟨19, _⟩ => ⟨S32x4096x32x1, .f32⟩
  | .hbm, ⟨20, _⟩ => ⟨S1x1x1x3, .f32⟩
  | .hbm, ⟨21, _⟩ => ⟨S32x4096x32x3, .f32⟩
  | .hbm, ⟨22, _⟩ => ⟨S32x4096x32x3, .f32⟩
  | .hbm, ⟨23, _⟩ => ⟨S32x4096x32x3, .f32⟩
  | .hbm, ⟨24, _⟩ => ⟨S32x4096x32x3, .f32⟩
  | .hbm, ⟨25, _⟩ => ⟨S_, .f32⟩
  | .hbm, ⟨26, _⟩ => ⟨S32x4096x32x3, .f32⟩
  | .hbm, ⟨27, _⟩ => ⟨S32x4096x32x3, .f32⟩
  | .hbm, ⟨28, _⟩ => ⟨S3, .f32⟩
  | .hbm, ⟨29, _⟩ => ⟨S_, .f32⟩
  | .hbm, ⟨30, _⟩ => ⟨S3, .f32⟩
  | .hbm, ⟨31, _⟩ => ⟨S3, .f32⟩
  | .hbm, ⟨32, _⟩ => ⟨S3, .f32⟩
  | .hbm, ⟨33, _⟩ => ⟨S1x1x1x3, .f32⟩
  | .hbm, ⟨34, _⟩ => ⟨S32x4096x32x3, .f32⟩
  | .hbm, ⟨35, _⟩ => ⟨S32x4096x32x3, .f32⟩
  | .hbm, ⟨36, _⟩ => ⟨S32x4096x32x3, .f32⟩
  | .hbm, ⟨37, _⟩ => ⟨S1x1x1x3, .f32⟩
  | .hbm, ⟨38, _⟩ => ⟨S32x4096x32x3, .f32⟩
  | .hbm, ⟨39, _⟩ => ⟨S32x4096x32x3, .f32⟩
  | .hbm, ⟨40, _⟩ => ⟨S1x1x1x3, .f32⟩
  | .hbm, ⟨41, _⟩ => ⟨S32x4096x32x3, .f32⟩
  | .hbm, ⟨42, _⟩ => ⟨S32x4096x32x3, .f32⟩
  | .hbm, ⟨43, _⟩ => ⟨S1x1x1x3, .f32⟩
  | .hbm, ⟨44, _⟩ => ⟨S32x4096x32x3, .f32⟩
  | .hbm, ⟨45, _⟩ => ⟨S32x4096x32x3, .f32⟩
  | .hbm, ⟨46, _⟩ => ⟨S32x4096x32x3, .i1⟩
  | .hbm, ⟨47, _⟩ => ⟨S1x1x1x3, .f32⟩
  | .hbm, ⟨48, _⟩ => ⟨S32x4096x32x3, .f32⟩
  | .hbm, ⟨49, _⟩ => ⟨S32x4096x32x3, .f32⟩
  | .hbm, ⟨50, _⟩ => ⟨S32x4096x32x3, .i1⟩
  | .hbm, ⟨51, _⟩ => ⟨S32x4096x32x3, .i1⟩
  | .hbm, ⟨52, _⟩ => ⟨S32x4096x32x3, .f32⟩
  | .hbm, ⟨53, _⟩ => ⟨S4096x32x32, .f32⟩
  | .hbm, ⟨54, _⟩ => ⟨S32x4096x32, .f32⟩
  | .hbm, ⟨55, _⟩ => ⟨S32x4096x32, .f32⟩
  | _, _ => ⟨S32x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Proof.Scalar.lean ====
/-
  One element of the result, on extended reals alone: the number the kernel computes for a position, a batch entry and a
  channel (`fused`), the number the reference computes there (`plain`), and their equality where the input `x` and the
  three second-order weights are real. Nothing of either program is named here.

  The three intervals are (0, D), (D, 2D) and (2D, 4096), where D = 11184811 / 8192 is 4096 / 3 rounded to single
  precision. An interval from `lo` to `hi` of length `d = hi - lo` contributes `w` times `(x - lo)² / 2` inside and
  `d² / 2 + d (x - hi)` outside. The kernel writes both as one polynomial, `(d² / 2 - d hi) + d x`, plus `(x - hi)² / 2`
  inside, and adds the polynomials of the three intervals to the coefficients of the first-order part.
-/
module

public import Idealize.ShloMosaic.Lib.Pointwise

@[expose] public section

noncomputable section

namespace Cert.Saaf

open Idealize.ShloMosaic

/-! ## The constants -/

/-- The single-precision word `0x44AAAAAB`: the length of the first two intervals. -/
theorem word_first : Ideal.ofBits .f32 0x44AAAAAB#32 = ((11184811 / 8192 : ℝ) : EReal) := by
  simp [Ideal.ofBits, Ideal.ieee, -EReal.coe_mul]; norm_num

/-- The word `0x452AAAAB`: where the second interval ends. -/
theorem word_second : Ideal.ofBits .f32 0x452AAAAB#32 = ((11184811 / 4096 : ℝ) : EReal) := by
  simp [Ideal.ofBits, Ideal.ieee, -EReal.coe_mul]; norm_num

/-- The word `0x45800000`: where the third interval ends. -/
theorem word_third : Ideal.ofBits .f32 0x45800000#32 = ((4096 : ℝ) : EReal) := by
  simp [Ideal.ofBits, Ideal.ieee, -EReal.coe_mul]; norm_num

/-- The word `0x44AAAAAA`: the length of the third interval. -/
theorem word_last : Ideal.ofBits .f32 0x44AAAAAA#32 = ((11184810 / 8192 : ℝ) : EReal) := by
  simp [Ideal.ofBits, Ideal.ieee, -EReal.coe_mul]; norm_num

/-- The word `0x3F000000` is one half. -/
theorem word_half : Ideal.ofBits .f32 0x3F000000#32 = ((1 / 2 : ℝ) : EReal) := by
  simp [Ideal.ofBits, Ideal.ieee, -EReal.coe_mul]; norm_num

/-! ## The two functions of one element -/

/-- Two comparison bits joined by «and» choose as the two comparisons joined by «and» do. -/
theorem select_both {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- What the kernel adds for one interval from `lo` to `hi`: half the weight inside, nothing outside, times the square
    of the distance to `hi`. -/
def inner (lo hi x w : EReal) : EReal :=
  (if lo < x ∧ x < hi then ((1 / 2 : ℝ) : EReal) * w else 0) * ((x - hi) * (x - hi))

/-- The kernel's number: both coefficients with the intervals' polynomials added in, then the three inner parts. -/
def fused (x v0 v1 w0 w1 w2 : EReal) : EReal :=
  v0 + ((-125099997105721 / 134217728 : ℝ) : EReal) * w0 + ((-375299991317163 / 134217728 : ℝ) : EReal) * w1
      + ((-156374979604935 / 33554432 : ℝ) : EReal) * w2
    + (v1 + ((11184811 / 8192 : ℝ) : EReal) * w0 + ((11184811 / 8192 : ℝ) : EReal) * w1
        + ((11184810 / 8192 : ℝ) : EReal) * w2) * x
    + inner 0 ((11184811 / 8192 : ℝ) : EReal) x w0
    + inner ((11184811 / 8192 : ℝ) : EReal) ((11184811 / 4096 : ℝ) : EReal) x w1
    + inner ((11184811 / 4096 : ℝ) : EReal) ((4096 : ℝ) : EReal) x w2

/-- The reference's basis function of one interval from `lo` to `hi`. -/
def basis (lo hi x : EReal) : EReal :=
  if lo < x ∧ x < hi then ((1 / 2 : ℝ) : EReal) * ((x - lo) * (x - lo))
  else ((1 / 2 : ℝ) : EReal) * (hi - lo) * (hi - lo) + (hi - lo) * (x - hi)

/-- The reference's number: the first-order part, then the three weighted basis functions. -/
def plain (x v0 v1 w0 w1 w2 : EReal) : EReal :=
  (v0 + v1 * x)
    + (w0 * basis 0 ((11184811 / 8192 : ℝ) : EReal) x
      + w1 * basis ((11184811 / 8192 : ℝ) : EReal) ((11184811 / 4096 : ℝ) : EReal) x
      + w2 * basis ((11184811 / 4096 : ℝ) : EReal) ((4096 : ℝ) : EReal) x)

/-! ## Their equality -/

/-- Adding a real to an extended real distributes over multiplication by a real. -/
theorem add_real_mul (a : EReal) (r x : ℝ) : (a + (r : EReal)) * (x : EReal) = a * x + ((r * x : ℝ) : EReal) := by
  induction a with
  | coe a => rw [← EReal.coe_add, ← EReal.coe_mul, ← EReal.coe_mul, ← EReal.coe_add, add_mul]
  | top =>
    rw [EReal.top_add_coe]
    rcases lt_trichotomy x 0 with h | h | h
    · rw [EReal.top_mul_coe_of_neg h, EReal.bot_add]
    · subst h; simp
    · rw [EReal.top_mul_coe_of_pos h, EReal.top_add_coe]
  | bot =>
    rw [EReal.bot_add]
    rcases lt_trichotomy x 0 with h | h | h
    · rw [EReal.bot_mul_coe_of_neg h, EReal.top_add_coe]
    · subst h; simp
    · rw [EReal.bot_mul_coe_of_pos h, EReal.bot_add]

/-- The same three numbers on the reals, for one interval. -/
def innerReal (lo hi x w : ℝ) : ℝ := (if lo < x ∧ x < hi then 1 / 2 * w else 0) * ((x - hi) * (x - hi))

/-- (the basis function) -/
def basisReal (lo hi x : ℝ) : ℝ :=
  if lo < x ∧ x < hi then 1 / 2 * ((x - lo) * (x - lo)) else 1 / 2 * (hi - lo) * (hi - lo) + (hi - lo) * (x - hi)

theorem inner_coe (lo hi x w : ℝ) : inner (lo : EReal) hi x w = (innerReal lo hi x w : ℝ) := by
  unfold inner innerReal
  simp only [EReal.coe_lt_coe_iff]
  split <;> simp only [← EReal.coe_sub, ← EReal.coe_mul, ← EReal.coe_zero]

theorem basis_coe (lo hi x : ℝ) : basis (lo : EReal) hi x = (basisReal lo hi x : ℝ) := by
  unfold basis basisReal
  simp only [EReal.coe_lt_coe_iff]
  split <;> simp only [← EReal.coe_sub, ← EReal.coe_mul, ← EReal.coe_add]

/-- One interval: its polynomial and the inner part make the weighted basis function. -/
theorem interval_eq (lo hi x w : ℝ) :
    ((hi - lo) * (hi - lo) / 2 - (hi - lo) * hi) * w + (hi - lo) * w * x + innerReal lo hi x w = w * basisReal lo hi x := by
  unfold innerReal basisReal
  split <;> ring

/-- Where `x` and the weights are real, the two numbers are equal, whatever the first-order coefficients are. -/
theorem fused_eq_plain (x : ℝ) (v0 v1 : EReal) (w0 w1 w2 : ℝ) :
    fused x v0 v1 w0 w1 w2 = plain x v0 v1 w0 w1 w2 := by
  have h0 : (0 : EReal) = ((0 : ℝ) : EReal) := rfl
  unfold fused plain
  rw [h0]
  simp only [inner_coe, basis_coe, add_assoc v1, ← EReal.coe_mul, ← EReal.coe_add, add_real_mul]
  have e : ∀ a b c d f g h i k : EReal, a + b + c + d + (k + f) + g + h + i = (a + k) + (b + c + d + f + g + h + i) := by
    intros; abel
  rw [e]
  simp only [← EReal.coe_add]
  congr 2
  rw [← interval_eq, ← interval_eq, ← interval_eq]
  ring

end Cert.Saaf

end
-- ==== Proof.Block.lean ====
/-
  What one grid point computes: the block the kernel body stores, read at a position of the block, is Proof/Scalar.lean's
  `fused` of the input, the two first-order rows and the three second-order rows there.

  The body works with the channel on the rows and with the batch entry and the position, flattened, on the columns. It
  moves the input there, and the result back, by a product with the unit matrix (`turned_apply`, `stored_apply`), and it
  repeats a row of 256 positions 32 times to meet the flattened axis (`tiled_apply`).
-/
module

public import proofs.«01_k».proof.Proof.Scalar
public import proofs.«01_k».proof.Proof.Gen.KernelIdeal.Frame
public import Idealize.ShloMosaic.Lib.Pipeline.Value

@[expose] public section

noncomputable section

namespace Cert.KernelIdeal.Block

open Cert.KernelIdeal Cert.KernelIdeal.Gen Idealize.ShloMosaic

/-! ## The unit matrix -/

/-- The word in row `i`, column `j` of the comparison of the row numbers with the column numbers. -/
theorem unit_word : ∀ i j : Fin 32,
    BitVec.setWidth 32 (IntOp.cmpi CmpIPredicate.eq (IntOp.addi (BitVec.ofNat 32 i.val) 0#32) (BitVec.ofNat 32 j.val))
      = if i = j then 1#32 else 0#32 := by
  decide +kernel

/-- The number it becomes: one on the diagonal, zero elsewhere. -/
theorem unit_val (i j : Fin 32) :
    FloatOps.sitofp (F := Ideal) FTy.f32 (BitVec.setWidth 32
        (IntOp.cmpi CmpIPredicate.eq (IntOp.addi (BitVec.ofNat 32 i.val) 0#32) (BitVec.ofNat 32 j.val)))
      = if i = j then (1 : EReal) else 0 := by
  rw [unit_word]
  split <;> simp [FloatOps.sitofp]

/-! ## The body's values at an index -/

/-- The flattened column of batch entry `b`, position `t`. -/
abbrev col (b : Fin 32) (t : Fin 256) : Fin 8192 := ⟨b.val * 256 + t.val, by omega⟩

set_option maxRecDepth 16384 in
/-- The input turned: channel by flattened column. -/
theorem turned_apply (x : Vec Ideal S32x256x32 .fp8e4m3) (b : Fin 32) (t : Fin 256) (c : Fin 32) :
    k0_pay11 x (ix2 c (col b t)) = x (ix3 b t c) := by
  pointwise [k0_pay11]
  simp only [unit_val, ite_mul, one_mul, zero_mul, Finset.sum_ite_eq, Finset.mem_univ, if_true]
  have hb : (⟨(b.val * 256 + t.val) / 256, by omega⟩ : Fin 32) = b := Fin.ext (by simp only; omega)
  have ht : (⟨(b.val * 256 + t.val) % 256, by omega⟩ : Fin 256) = t := Fin.ext (by simp only; omega)
  rw [hb, ht]

/-- A row of 256 positions repeated along the flattened axis reads the position. -/
theorem tiled_apply (a : FVec Ideal S32x256 .f32) (b : Fin 32) (t : Fin 256) (c : Fin 32) :
    k0_pay10 a (ix2 c (col b t)) = a (ix2 c t) := by
  refine concatenate_ofFn_apply 1 (fun _ : Fin 32 => a)
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1
    rfl 256 rfl (ix2 c (col b t)) b ?_ (ix2 c t) ?_ ?_
  · show (b.val * 256 + t.val) / 256 = b.val
    omega
  · show t.val = (b.val * 256 + t.val) % 256
    omega
  · intro a ha
    match a with
    | ⟨0, _⟩ => rfl
    | ⟨1, _⟩ => exact absurd rfl ha

/-- The zeroth coefficient with the intervals' polynomials added in, before it is repeated. -/
def offset (v w0 w1 w2 : Vec Ideal S32x1x256 .f32) : FVec Ideal S32x256 .f32 := fun i =>
  v (ix3 (i 0) 0 (i 1)) + ((-125099997105721 / 134217728 : ℝ) : EReal) * w0 (ix3 (i 0) 0 (i 1))
    + ((-375299991317163 / 134217728 : ℝ) : EReal) * w1 (ix3 (i 0) 0 (i 1))
    + ((-156374979604935 / 33554432 : ℝ) : EReal) * w2 (ix3 (i 0) 0 (i 1))

theorem named0 : Named.named (F := Ideal) κ "c0" (φ := .f32) 0xC9638E3A#32 = ((-125099997105721 / 134217728 : ℝ) : EReal) :=
  IdealRules.named_const.ideal_named_scalar _ _ _ _ rfl
theorem named1 : Named.named (F := Ideal) κ "c1" (φ := .f32) 0xCA2AAAAB#32 = ((-375299991317163 / 134217728 : ℝ) : EReal) :=
  IdealRules.named_const.ideal_named_scalar _ _ _ _ rfl
theorem named2 : Named.named (F := Ideal) κ "c2" (φ := .f32) 0xCA8E38E3#32 = ((-156374979604935 / 33554432 : ℝ) : EReal) :=
  IdealRules.named_const.ideal_named_scalar _ _ _ _ rfl

set_option maxRecDepth 16384 in
/-- The repeated zeroth coefficient is `offset`, repeated. -/
theorem offset_eq (v w0 w1 w2 : Vec Ideal S32x1x256 .f32) : k0_pay9 v w0 w1 w2 = k0_pay10 (offset v w0 w1 w2) := by
  unfold k0_pay9
  refine congrArg k0_pay10 (a₁ := addf (addf (addf _ _) _) _) (funext fun i => ?_)
  unfold offset
  idx_vars i
  pointwise [k0_pay2, k0_pay3, k0_pay4]
  rw [named0, named1, named2]

set_option maxRecDepth 16384 in
/-- The first coefficient with the intervals' slopes added in. -/
theorem slope_apply (v w0 w1 w2 : Vec Ideal S32x1x256 .f32) (c : Fin 32) (t : Fin 256) :
    k0_pay5 v w0 w1 w2 (ix2 c t)
      = v (ix3 c 0 t) + ((11184811 / 8192 : ℝ) : EReal) * w0 (ix3 c 0 t) + ((11184811 / 8192 : ℝ) : EReal) * w1 (ix3 c 0 t)
        + ((11184810 / 8192 : ℝ) : EReal) * w2 (ix3 c 0 t) := by
  pointwise [k0_pay5, k0_pay2, k0_pay3, k0_pay4]
  rw [Saaf.word_first, Saaf.word_last]

/-- Half of each interval's weight. -/
theorem half0_apply (w : Vec Ideal S32x1x256 .f32) (c : Fin 32) (t : Fin 256) :
    k0_pay6 w (ix2 c t) = ((1 / 2 : ℝ) : EReal) * w (ix3 c 0 t) := by
  pointwise [k0_pay6, k0_pay2]
  rw [Saaf.word_half]
theorem half1_apply (w : Vec Ideal S32x1x256 .f32) (c : Fin 32) (t : Fin 256) :
    k0_pay7 w (ix2 c t) = ((1 / 2 : ℝ) : EReal) * w (ix3 c 0 t) := by
  pointwise [k0_pay7, k0_pay3]
  rw [Saaf.word_half]
theorem half2_apply (w : Vec Ideal S32x1x256 .f32) (c : Fin 32) (t : Fin 256) :
    k0_pay8 w (ix2 c t) = ((1 / 2 : ℝ) : EReal) * w (ix3 c 0 t) := by
  pointwise [k0_pay8, k0_pay4]
  rw [Saaf.word_half]

set_option maxRecDepth 16384 in
/-- The sum up to the second interval, from its repeated operands. -/
theorem partial_apply (a h0 h1 : FVec Ideal S32x256 .f32) (o : FVec Ideal S32x8192 .f32) (x : Vec Ideal S32x256x32 .fp8e4m3)
    (j : S32x8192.Idx) :
    k0_pay12 a h0 h1 o x j
      = o j + k0_pay10 a j * k0_pay11 x j
        + (if 0 < k0_pay11 x j ∧ k0_pay11 x j < ((11184811 / 8192 : ℝ) : EReal) then k0_pay10 h0 j else 0)
          * ((k0_pay11 x j - ((11184811 / 8192 : ℝ) : EReal)) * (k0_pay11 x j - ((11184811 / 8192 : ℝ) : EReal)))
        + (if ((11184811 / 8192 : ℝ) : EReal) < k0_pay11 x j ∧ k0_pay11 x j < ((11184811 / 4096 : ℝ) : EReal) then k0_pay10 h1 j else 0)
          * ((k0_pay11 x j - ((11184811 / 4096 : ℝ) : EReal)) * (k0_pay11 x j - ((11184811 / 4096 : ℝ) : EReal))) := by
  rw [← Saaf.select_both, ← Saaf.select_both, ← Saaf.word_first, ← Saaf.word_second, ← Ideal.ofBits_zero_f32]
  rfl

set_option maxRecDepth 16384 in
/-- The stored block: the third interval added, turned back. -/
theorem stored_apply (h x o d e : FVec Ideal S32x8192 .f32) (b : Fin 32) (t : Fin 256) (c : Fin 32) :
    k0_pay1 h x o d e (ix3 b t c)
      = o (ix2 c (col b t))
        + (if e (ix2 c (col b t)) < x (ix2 c (col b t)) ∧ x (ix2 c (col b t)) < ((4096 : ℝ) : EReal) then h (ix2 c (col b t)) else 0)
          * (d (ix2 c (col b t)) * d (ix2 c (col b t))) := by
  pointwise [k0_pay1]
  simp only [unit_val, mul_ite, mul_one, mul_zero, Finset.sum_ite_eq', Finset.mem_univ, if_true]
  rw [Saaf.select_both, Saaf.word_third]
  split <;> simp

/-! ## The block -/

/-- THE BLOCK a grid point stores, at batch entry `b`, position `t`, channel `c`. -/
theorem block_apply (v : Vec Ideal S32x2x256 .f32) (w : Vec Ideal S32x3x256 .f32) (x : Vec Ideal S32x256x32 .fp8e4m3)
    (b : Fin 32) (t : Fin 256) (c : Fin 32) :
    out0_3 v w x (ix3 b t c)
      = Saaf.fused (x (ix3 b t c)) (v (ix3 c 0 t)) (v (ix3 c 1 t)) (w (ix3 c 0 t)) (w (ix3 c 1 t)) (w (ix3 c 2 t)) := by
  have hz : (![0, 0, 0] : Fin 3 → Nat) = fun _ => 0 := funext fun a => by fin_cases a <;> rfl
  have v0 : View.ld v r0_0 (ix3 c 0 t) = v (ix3 c 0 t) := by pointwise [r0_0]
  have v1 : View.ld v r0_1 (ix3 c 0 t) = v (ix3 c 1 t) := by pointwise [r0_1]
  have w0 : View.ld w r0_2 (ix3 c 0 t) = w (ix3 c 0 t) := by pointwise [r0_2]
  have w1 : View.ld w r0_3 (ix3 c 0 t) = w (ix3 c 1 t) := by pointwise [r0_3]
  have w2 : View.ld w r0_4 (ix3 c 0 t) = w (ix3 c 2 t) := by pointwise [r0_4]
  have hlo : k0_pay14 (F := Ideal) (ix2 c (col b t)) = ((11184811 / 4096 : ℝ) : EReal) := Saaf.word_second
  have hd : k0_pay13 x (ix2 c (col b t)) = x (ix3 b t c) - ((4096 : ℝ) : EReal) := by
    rw [← turned_apply x b t c, ← Saaf.word_third]; rfl
  unfold out0_3
  rw [View.canon_unit_zero hz, View.ld_unit_zero hz, stored_apply, partial_apply, offset_eq, hlo, hd]
  simp only [tiled_apply, turned_apply, slope_apply, half0_apply, half1_apply, half2_apply, v1, w0, w1, w2]
  unfold Saaf.fused Saaf.inner
  congr 4
  rw [← v0, ← w0, ← w1, ← w2]
  rfl

end Cert.KernelIdeal.Block

end
-- ==== Proof.Array.lean ====
/-
  What the kernel returns, from its blocks: grid point `t` stores positions `256 t` to `256 t + 255` of the result, each
  of them Proof/Scalar.lean's `fused` of the arguments there. The sixteen blocks cover the array, so the array holds `fused`
  at every position; the conversions before and after the call change no number over the reals.
-/
module

public import proofs.«01_k».proof.Proof.Block
public import Idealize.ShloMosaic.Lib.Pipeline.ValueKit

@[expose] public section

noncomputable section

namespace Cert.KernelIdeal.Array

open Cert.KernelIdeal Cert.KernelIdeal.Gen Idealize Idealize.ShloMosaic Idealize.SL.Sem

/-- The kernel's formula at every position of the result. -/
def result (x : FVec Ideal S32x4096x32 .f32) (v : FVec Ideal S32x2x4096 .f32) (w : FVec Ideal S32x3x4096 .f32) :
    FVec Ideal S32x4096x32 .f32 := fun i =>
  Saaf.fused (x i) (v (ix3 (i 2) 0 (i 1))) (v (ix3 (i 2) 1 (i 1))) (w (ix3 (i 2) 0 (i 1))) (w (ix3 (i 2) 1 (i 1)))
    (w (ix3 (i 2) 2 (i 1)))

variable (m : (ℓ : Loc nD τ sig) → Buf (Elt Ideal) ℓ) (ρ : Dev nD → PrngReg) (c : Dev nD)

/-- The three arguments on core `c`. -/
abbrev argX : FVec Ideal S32x4096x32 .f32 := m ((c.tc : Thread nD τ).loc main_arg0)
abbrev argV : FVec Ideal S32x2x4096 .f32 := m ((c.tc : Thread nD τ).loc main_arg1)
abbrev argW : FVec Ideal S32x3x4096 .f32 := m ((c.tc : Thread nD τ).loc main_arg2)

/-! ## The blocks' places -/

theorem place0 : ∀ t : Fin cfg0.N, win0_0.index t = ![0, 0, t.val] := (by decide +kernel : ∀ t : Fin grid0.N, _)
theorem place1 : ∀ t : Fin cfg0.N, win0_1.index t = ![0, 0, t.val] := (by decide +kernel : ∀ t : Fin grid0.N, _)
theorem place2 : ∀ t : Fin cfg0.N, win0_2.index t = ![0, t.val, 0] := (by decide +kernel : ∀ t : Fin grid0.N, _)
theorem place3 : ∀ t : Fin cfg0.N, win0_3.index t = ![0, t.val, 0] := (by decide +kernel : ∀ t : Fin grid0.N, _)

/-- The call finds the input as launched: its conversion changes no number over the reals. -/
theorem entry_x : (V m c main_v0 : S32x4096x32.Idx → EReal) = argX m c := by
  show StableHlo.after hostOps0 _ (Proc.devRef .tc main_v0) = _
  unfold hostOps0
  after_results
  rfl

theorem in_v (t : Fin cfg0.N) (ch : Fin 32) (k : Fin 2) (p : Fin 256) (q : Fin 4096) (hq : q.val = t.val * 256 + p.val) :
    iblk m c 0 t (ix3 ch k p) = argV m c (ix3 ch k q) := by
  blk_simp [iblk]
  rw [show V m c main_arg1 = argV m c from V_main_arg1 m c]
  blk_ext [place0]

theorem in_w (t : Fin cfg0.N) (ch : Fin 32) (k : Fin 3) (p : Fin 256) (q : Fin 4096) (hq : q.val = t.val * 256 + p.val) :
    iblk m c 1 t (ix3 ch k p) = argW m c (ix3 ch k q) := by
  blk_simp [iblk]
  rw [show V m c main_arg2 = argW m c from V_main_arg2 m c]
  blk_ext [place1]

theorem in_x (t : Fin cfg0.N) (b : Fin 32) (p : Fin 256) (ch : Fin 32) (q : Fin 4096) (hq : q.val = t.val * 256 + p.val) :
    iblk m c 2 t (ix3 b p ch) = argX m c (ix3 b q ch) := by
  blk_simp [iblk]
  refine (congrFun (entry_x m c) _).trans ?_
  blk_ext [place2]

/-! ## The array the call leaves -/

/-- The call's output array holds the kernel's formula at every position. -/
theorem final : (dats m 0 c).arrAt 3 cfg0.N = result (argX m c) (argV m c) (argW m c) := by
  refine (dats m 0 c).arrAt_eq_of_covers 3 _ (by decide +kernel) fun t _ y => ?_
  blk_simp
  rw [after0_3]
  have hy : ∃ (b : Fin 32) (p : Fin 256) (ch : Fin 32), y = ix3 b p ch :=
    ⟨y 0, y 1, y 2, funext fun a => by fin_cases a <;> rfl⟩
  obtain ⟨b, p, ch, rfl⟩ := hy
  have ht : t.val < 16 := t.isLt
  have hp := p.isLt
  let q : Fin 4096 := ⟨t.val * 256 + p.val, by omega⟩
  have hq : ((cfg0.win 3).blk t).view.emb (ix3 b p ch) = ix3 b q ch := by
    blk_ext [place3]
    rfl
  rw [hq]
  refine (Block.block_apply _ _ _ b p ch).trans ?_
  rw [in_x m c t b p ch q rfl, in_v m c t ch 0 p q rfl, in_v m c t ch 1 p q rfl, in_w m c t ch 0 p q rfl,
    in_w m c t ch 1 p q rfl, in_w m c t ch 2 p q rfl]
  rfl

/-! ## The kernel's run -/

/-- What the conversion after the call leaves in the result: the call's array unchanged. -/
theorem exit_out : Pipeline.afterTail₀ cfgs (dats m) 0 (V0 m) [hostOps1] c main_v2 = result (argX m c) (argV m c) (argW m c) := by
  unfold Pipeline.afterTail₀
  show StableHlo.after hostOps1 _ (Proc.devRef .tc main_v2) = _
  unfold hostOps1
  after_results
  have h := Pipeline.withArrays_arr spec0 (by decide) c (V0 m c) (fun w => (dats m 0 c).arrAt w cfg0.N) 3
  exact (congrArg (fun a : S32x4096x32.Idx → EReal => a) h).trans (final m c)

/-- Every run of the kernel ends with its formula in the result and with its arguments unchanged. -/
theorem run : θ_run defs (onTc (τ := τ) (main (F := Ideal))) ⟨m, fun _ => 0, ρ⟩ (fun r => ∀ c : Dev nD,
      r.2.mem ((c.tc : Thread nD τ).loc main_v2) = result (argX m c) (argV m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.rest_eq c main_v2 (Pipeline.mem_restRefs_of main_v2 (by decide) (by decide))).trans
      (exit_out m c), h.2 c⟩)
    (θ_run_and (run_main m ρ) (unchanged m ρ))

end Cert.KernelIdeal.Array

end
-- ==== Proof.Ref.lean ====
/-
  What the reference computes: its result, read at an index, is Proof/Scalar.lean's `plain` of the input, the two
  first-order coefficients and the three second-order weights there. Its result is the sum of two contractions, one over
  the powers of the input (`powers`) and one over the basis functions of the three intervals (`bases`); each operand is
  read at an index first.
-/
module

public import proofs.«01_k».proof.Proof.Scalar
public import proofs.«01_k».proof.Proof.Gen.ReferenceIdeal.Run

@[expose] public section

noncomputable section

namespace Cert.ReferenceIdeal.Point

open Cert.ReferenceIdeal Cert.ReferenceIdeal.Gen Idealize.ShloMosaic Idealize.ShloMosaic.TcCoe Idealize.SL.Sem

/-! ## The operands -/

/-- The powers of the input, zeroth and first, each over its factorial, along a new last axis. -/
def powers (x : FVec Ideal S32x4096x32 .f32) : FVec Ideal S32x4096x32x2 .f32 :=
  have one : FVec Ideal S32x4096x32 .f32 := broadcastInDim S32x4096x32 ![] bcast_S_S32x4096x32 (constant S_ .f32 0x3F800000#32)
  concatenate S32x4096x32x2 3
    [⟨S32x4096x32x1, broadcastInDim S32x4096x32x1 ![0, 1, 2] bcast_S32x4096x32_S32x4096x32x1_0_1_2 (Host.divf one one)⟩,
      ⟨S32x4096x32x1, broadcastInDim S32x4096x32x1 ![0, 1, 2] bcast_S32x4096x32_S32x4096x32x1_0_1_2 (Host.divf x one)⟩]
    concatenates_S32x4096x32x1_S32x4096x32x1_S32x4096x32x2_d3

/-- The four breakpoints. -/
def edges : FVec Ideal S4 .f32 := fun i => FloatOps.ofBits .f32 (lit0 (S4.rowMajor i))
/-- Where each interval starts, -/
def lower : FVec Ideal S3 .f32 := extractStridedSlice S3 ![0] edges slices_S4_S3_0
/-- and ends. -/
def upper : FVec Ideal S3 .f32 := extractStridedSlice S3 ![1] edges slices_S4_S3_1

/-- A number per interval, along the last axis of the whole box. -/
def spread (a : FVec Ideal S3 .f32) : FVec Ideal S32x4096x32x3 .f32 :=
  broadcastInDim S32x4096x32x3 ![0, 1, 2, 3] bcast_S1x1x1x3_S32x4096x32x3_0_1_2_3
    (broadcastInDim S1x1x1x3 ![3] bcast_S3_S1x1x1x3_3 a)

/-- The input, repeated along the last axis of the whole box. -/
def repeated (x : FVec Ideal S32x4096x32 .f32) : FVec Ideal S32x4096x32x3 .f32 :=
  broadcastInDim S32x4096x32x3 ![0, 1, 2, 3] bcast_S32x4096x32x1_S32x4096x32x3_0_1_2_3
    (broadcastInDim S32x4096x32x1 ![0, 1, 2] bcast_S32x4096x32_S32x4096x32x1_0_1_2 x)

/-- The basis functions of the three intervals, along the last axis. -/
def bases (x : FVec Ideal S32x4096x32 .f32) : FVec Ideal S32x4096x32x3 .f32 :=
  have width : FVec Ideal S3 .f32 := subf upper lower
  have half : FVec Ideal S3 .f32 := broadcastInDim S3 ![] bcast_S_S3 (constant S_ .f32 0x3F000000#32)
  have halves : FVec Ideal S32x4096x32x3 .f32 :=
    broadcastInDim S32x4096x32x3 ![] bcast_S_S32x4096x32x3 (constant S_ .f32 0x3F000000#32)
  have rise : FVec Ideal S32x4096x32x3 .f32 := subf (repeated x) (spread lower)
  select (andi (cmpf .ogt (repeated x) (spread lower)) (cmpf .olt (repeated x) (spread upper)))
    (mulf halves (mulf rise rise))
    (addf (spread (mulf (mulf half width) width)) (mulf (spread width) (subf (repeated x) (spread upper))))

/-! ## The operands at an index -/

theorem div_one (x : EReal) : Ideal.div x 1 = x := by
  rw [Ideal.div, if_neg one_ne_zero, inv_one, mul_one]

set_option maxRecDepth 16384 in
theorem powers_apply (x : FVec Ideal S32x4096x32 .f32) (b : Fin 32) (t : Fin 4096) (c : Fin 32) (k : Fin 2) :
    powers x (ix4 b t c k) = if k.val < 1 then 1 else x (ix3 b t c) := by
  pointwise [powers]
  simp only [div_one]
  split <;> rfl

theorem spread_apply (a : FVec Ideal S3 .f32) (b : Fin 32) (t : Fin 4096) (c : Fin 32) (k : Fin 3) :
    spread a (ix4 b t c k) = a (ix1 k) := by
  pointwise [spread]

theorem repeated_apply (x : FVec Ideal S32x4096x32 .f32) (b : Fin 32) (t : Fin 4096) (c : Fin 32) (k : Fin 3) :
    repeated x (ix4 b t c k) = x (ix3 b t c) := by
  pointwise [repeated]

theorem bases_apply (x : FVec Ideal S32x4096x32 .f32) (b : Fin 32) (t : Fin 4096) (c : Fin 32) (k : Fin 3) :
    bases x (ix4 b t c k) = Saaf.basis (lower (ix1 k)) (upper (ix1 k)) (x (ix3 b t c)) := by
  pointwise [bases]
  simp only [spread_apply, repeated_apply, Saaf.select_both, Saaf.word_half]
  pointwise
  rw [Saaf.word_half, Saaf.basis]

theorem lower_apply (k : Fin 3) : lower (ix1 k) = (![0, ((11184811 / 8192 : ℝ) : EReal), ((11184811 / 4096 : ℝ) : EReal)] : Fin 3 → EReal) k := by
  fin_cases k
  · exact Ideal.ofBits_zero_f32
  · exact Saaf.word_first
  · exact Saaf.word_second

theorem upper_apply (k : Fin 3) : upper (ix1 k) = (![((11184811 / 8192 : ℝ) : EReal), ((11184811 / 4096 : ℝ) : EReal), ((4096 : ℝ) : EReal)] : Fin 3 → EReal) k := by
  fin_cases k
  · exact Saaf.word_first
  · exact Saaf.word_second
  · exact Saaf.word_third

/-! ## The result -/

/-- The sum of the two contractions. -/
def total (x : FVec Ideal S32x4096x32 .f32) (v : FVec Ideal S32x2x4096 .f32) (w : FVec Ideal S32x3x4096 .f32) :
    FVec Ideal S32x4096x32 .f32 :=
  addf
    (transpose S32x4096x32 [2, 0, 1]
      (Host.dotGeneral dot_S32x2x4096_S32x4096x32x2_S4096x32x32_1_3_n_0_20_12 none v (powers x))
      transposes_S4096x32x32_S32x4096x32_2_0_1)
    (transpose S32x4096x32 [2, 0, 1]
      (Host.dotGeneral dot_S32x3x4096_S32x4096x32x3_S4096x32x32_1_3_n_0_20_12 none w (bases x))
      transposes_S4096x32x32_S32x4096x32_2_0_1)

/-- The reference's run ends with it. -/
theorem res_eq (m : (ℓ : Loc nD τ sig) → Buf (Elt Ideal) ℓ) (c : Dev nD) :
    Value.res_out0 m c = total (m ((c.tc : Thread nD τ).loc main_arg0)) (m ((c.tc : Thread nD τ).loc main_arg1))
      (m ((c.tc : Thread nD τ).loc main_arg2)) := rfl

set_option maxRecDepth 16384 in
/-- THE REFERENCE'S RESULT at batch entry `b`, position `t`, channel `c`. -/
theorem total_apply (x : FVec Ideal S32x4096x32 .f32) (v : FVec Ideal S32x2x4096 .f32) (w : FVec Ideal S32x3x4096 .f32)
    (b : Fin 32) (t : Fin 4096) (c : Fin 32) :
    total x v w (ix3 b t c)
      = Saaf.plain (x (ix3 b t c)) (v (ix3 c 0 t)) (v (ix3 c 1 t)) (w (ix3 c 0 t)) (w (ix3 c 1 t)) (w (ix3 c 2 t)) := by
  pointwise [total]
  simp only [powers_apply, bases_apply, lower_apply, upper_apply, Fin.sum_univ_two, Fin.sum_univ_three]
  simp [Saaf.plain]

end Cert.ReferenceIdeal.Point

end
-- ==== Proof.Pre.lean ====
/-
  What the precondition says: every element of the input and of the second-order weights is a real number.
-/
module

public import proofs.«01_k».proof.Pre_finite
public import Idealize.ShloMosaic.Lib.Pointwise
public import Idealize.ShloMosaic.Lib.ReduceAll

@[expose] public section

noncomputable section

namespace Cert.Pre_finite

open Idealize.ShloMosaic

/-- The predicate's stated facts. -/
instance finite_facts : Facts where
  bcast_S_S32x4096x32 := by decide
  reducesTo_S32x4096x32_S_d0_1_2 := by decide
  h_S_ := by decide
  bcast_S_S32x3x4096 := by decide
  reducesTo_S32x3x4096_S_d0_1_2 := by decide

/-- A number whose absolute value is below infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | coe r => exact ⟨r, rfl⟩
  | top => simp at hlt
  | bot => simp at hlt

/-- Every element of the input and of the second-order weights is a real number. -/
theorem reals (x : FVec Ideal S32x4096x32 .f32) (v : FVec Ideal S32x2x4096 .f32) (w : FVec Ideal S32x3x4096 .f32)
    (h : fn x v w = fun _ => 1#1) : (∀ i, ∃ r : ℝ, x i = (r : EReal)) ∧ ∀ i, ∃ r : ℝ, w i = (r : EReal) := by
  have : Subsingleton S_.Idx := ⟨fun a b => funext fun i => i.elim0⟩
  have h0 := congrFun h ix0
  have hb := IntOp.andi_eq_one.mp h0
  exact ⟨fun i => real_of_abs_lt _ (Host.reduce_andi_all _ _ _ _ _ hb.1 i),
    fun i => real_of_abs_lt _ (Host.reduce_andi_all _ _ _ _ _ hb.2 i)⟩

end Cert.Pre_finite

end
-- ==== Proof.Equation.lean ====
/-
  The equation: wherever the input and the second-order weights are real numbers, the kernel's array (Proof/Array.lean) and
  the reference's (Proof/Ref.lean) are the same array. At one position it is Proof/Scalar.lean's `fused_eq_plain`. The
  first-order rows may hold any extended real number.
-/
module

public import proofs.«01_k».proof.Proof.Array
public import proofs.«01_k».proof.Proof.Ref
public import proofs.«01_k».proof.Proof.Pre

@[expose] public section

noncomputable section

namespace Cert.Equation

open Idealize.ShloMosaic

/-- The kernel's array is the reference's. -/
theorem result_eq_total (x : FVec Ideal Cert.Pre_finite.S32x4096x32 .f32) (v : FVec Ideal Cert.Pre_finite.S32x2x4096 .f32)
    (w : FVec Ideal Cert.Pre_finite.S32x3x4096 .f32) (h : Cert.Pre_finite.fn x v w = fun _ => 1#1) :
    Cert.KernelIdeal.Array.result x v w = Cert.ReferenceIdeal.Point.total x v w := by
  obtain ⟨hx, hw⟩ := Cert.Pre_finite.reals x v w h
  funext i
  obtain ⟨b, t, c, rfl⟩ : ∃ (b : Fin 32) (t : Fin 4096) (c : Fin 32), i = ix3 b t c :=
    ⟨i 0, i 1, i 2, funext fun a => by fin_cases a <;> rfl⟩
  obtain ⟨r, hr⟩ := hx (ix3 b t c)
  obtain ⟨w0, hw0⟩ := hw (ix3 c 0 t)
  obtain ⟨w1, hw1⟩ := hw (ix3 c 1 t)
  obtain ⟨w2, hw2⟩ := hw (ix3 c 2 t)
  rw [Cert.ReferenceIdeal.Point.total_apply x v w b t c]
  show Saaf.fused (x (ix3 b t c)) (v (ix3 c 0 t)) (v (ix3 c 1 t)) (w (ix3 c 0 t)) (w (ix3 c 1 t)) (w (ix3 c 2 t)) = _
  rw [hr, hw0, hw1, hw2]
  exact Saaf.fused_eq_plain r _ _ w0 w1 w2

end Cert.Equation

end
-- ==== Proof.lean ====
/-
  The certificate's claim, assembled: the two kernels and the reference run to the end with their arguments unchanged and
  every counter at zero; the idealized kernel is the kernel with its three constants named; and wherever the input and the
  second-order weights are finite, the idealized kernel and the reference return the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs to the end, with its arguments unchanged and every counter at zero: it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference return the same array. -/
theorem same_result : Cert.algebraic_KernelIdeal_ReferenceIdeal_pre_finite := by
  intro m ρ m' ρ' hpre hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2⟩ := hagree c
  refine (Cert.ReferenceIdeal.Point.res_eq m' c).trans ?_
  rw [e0, e1, e2]
  exact (Cert.Equation.result_eq_total _ _ _ (hpre c)).symm

/-- Everything the certificate claims. -/
theorem claim : Cert.Claim :=
  ⟨Cert.Kernel.Gen.facts, Cert.KernelIdeal.Gen.facts, Cert.ReferenceIdeal.Gen.facts, Cert.Pre_finite.finite_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    ⟨IdealRules.named_const.statement Cert.KernelIdeal.κ "c0" .f32 0xC9638E3A#32 ((-125099997105721 / 134217728 : ℝ) : EReal) rfl,
      IdealRules.named_const.statement Cert.KernelIdeal.κ "c1" .f32 0xCA2AAAAB#32 ((-375299991317163 / 134217728 : ℝ) : EReal) rfl,
      IdealRules.named_const.statement Cert.KernelIdeal.κ "c2" .f32 0xCA8E38E3#32 ((-156374979604935 / 33554432 : ℝ) : EReal) rfl⟩,
    same_result⟩

end Cert.Proof

end
